-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3072x1152 : Shape := ⟨3, ![4, 3072, 1152]⟩
abbrev S4x3072x1 : Shape := ⟨3, ![4, 3072, 1]⟩
abbrev S1152x4736 : Shape := ⟨2, ![1152, 4736]⟩
abbrev S4736 : Shape := ⟨1, ![4736]⟩
abbrev S12288x1152 : Shape := ⟨2, ![12288, 1152]⟩
abbrev S12288x1 : Shape := ⟨2, ![12288, 1]⟩
abbrev S1x4736 : Shape := ⟨2, ![1, 4736]⟩
abbrev S12288x4736 : Shape := ⟨2, ![12288, 4736]⟩
abbrev S512x1152 : Shape := ⟨2, ![512, 1152]⟩
abbrev S512x1 : Shape := ⟨2, ![512, 1]⟩
abbrev S512x4736 : Shape := ⟨2, ![512, 4736]⟩
abbrev S4x3072x4736 : Shape := ⟨3, ![4, 3072, 4736]⟩

abbrev nBuf : Space → Nat
  | .hbm => 9
  | .vmem => 8
  | .smem => 0
  | _ => 0

abbrev bufTy : (tb : Table) → Fin (tcTables nBuf tb) → BufTy
  | .hbm, ⟨0, _⟩ => ⟨S4x3072x1152, .fp8e4m3⟩
  | .hbm, ⟨1, _⟩ => ⟨S4x3072x1, .f32⟩
  | .hbm, ⟨2, _⟩ => ⟨S1152x4736, .fp8e4m3⟩
  | .hbm, ⟨3, _⟩ => ⟨S4736, .f32⟩
  | .hbm, ⟨4, _⟩ => ⟨S12288x1152, .fp8e4m3⟩
  | .hbm, ⟨5, _⟩ => ⟨S12288x1, .f32⟩
  | .hbm, ⟨6, _⟩ => ⟨S1x4736, .f32⟩
  | .hbm, ⟨7, _⟩ => ⟨S12288x4736, .bf16⟩
  | .hbm, ⟨8, _⟩ => ⟨S4x3072x4736, .bf16⟩
  | .local _ .vmem, ⟨0, _⟩ => ⟨S512x1152, .fp8e4m3⟩
  | .local _ .vmem, ⟨1, _⟩ => ⟨S512x1152, .fp8e4m3⟩
  | .local _ .vmem, ⟨2, _⟩ => ⟨S512x1, .f32⟩
  | .local _ .vmem, ⟨3, _⟩ => ⟨S512x1, .f32⟩
  | .local _ .vmem, ⟨4, _⟩ => ⟨S1152x4736, .fp8e4m3⟩
  | .local _ .vmem, ⟨5, _⟩ => ⟨S1x4736, .f32⟩
  | .local _ .vmem, ⟨6, _⟩ => ⟨S512x4736, .bf16⟩
  | .local _ .vmem, ⟨7, _⟩ => ⟨S512x4736, .bf16⟩
  | _, _ => ⟨S4x3072x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1152x4736 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4736 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4736 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x3072x1152 : Shape := ⟨3, ![4, 3072, 1152]⟩
abbrev S4x3072x1 : Shape := ⟨3, ![4, 3072, 1]⟩
abbrev S1152x4736 : Shape := ⟨2, ![1152, 4736]⟩
abbrev S4736 : Shape := ⟨1, ![4736]⟩
abbrev S4x3072x4736 : Shape := ⟨3, ![4, 3072, 4736]⟩
abbrev S1x1x4736 : Shape := ⟨3, ![1, 1, 4736]⟩

abbrev nBuf : Space → Nat
  | .hbm => 5
  | .vmem => 5
  | .smem => 0
  | _ => 0

abbrev bufTy : (tb : Table) → Fin (tcTables nBuf tb) → BufTy
  | .hbm, ⟨0, _⟩ => ⟨S4x3072x1152, .fp8e4m3⟩
  | .hbm, ⟨1, _⟩ => ⟨S4x3072x1, .f32⟩
  | .hbm, ⟨2, _⟩ => ⟨S1152x4736, .fp8e4m3⟩
  | .hbm, ⟨3, _⟩ => ⟨S4736, .f32⟩
  | .hbm, ⟨4, _⟩ => ⟨S4x3072x4736, .bf16⟩
  | .local _ .vmem, ⟨0, _⟩ => ⟨S4x3072x1152, .fp8e4m3⟩
  | .local _ .vmem, ⟨1, _⟩ => ⟨S4x3072x1, .f32⟩
  | .local _ .vmem, ⟨2, _⟩ => ⟨S1152x4736, .fp8e4m3⟩
  | .local _ .vmem, ⟨3, _⟩ => ⟨S4736, .f32⟩
  | .local _ .vmem, ⟨4, _⟩ => ⟨S4x3072x4736, .bf16⟩
  | _, _ => ⟨S4x3072x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x3072x1152 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x4736 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4736 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x3072x4736 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelValue.lean ====
/- What the kernel computes, on idealized numbers. `flat` is the layer over all tokens in one list, `final_eq` says that the
   tiled pallas_call leaves exactly that in its result array, and `run` says that the whole program, with the reshapes before
   and after the call, ends with its result buffer at `value` of the four arguments and leaves the arguments as they were. -/
module

public import proofs.«01_k».proof.Proof.Gen.KernelIdeal.Frame
public import Idealize.ShloMosaic.Lib.Pipeline.ValueKit
public import Idealize.ShloMosaic.Lib.Pipeline.Value
public import Idealize.ShloMosaic.Lib.Pointwise
public import Idealize.ShloMosaic.Lib.Claim

@[expose] public section

set_option maxRecDepth 16384

noncomputable section

namespace Cert.KernelIdeal.Layer

open Cert.KernelIdeal Cert.KernelIdeal.Gen Idealize.ShloMosaic Idealize.ShloMosaic.TcCoe Idealize.SL.Sem
open Idealize.ShloMosaic.Pipeline (Dat)

/-- The layer over all tokens in one list: entry `(r, l)` is the product of token `r`'s codes with output channel `l`'s
    codes, summed over the 1152 features, times the token's scale, times the channel's scale. -/
def flat (x : FVec Ideal S12288x1152 .fp8e4m3) (xs : FVec Ideal S12288x1 .f32) (w : FVec Ideal S1152x4736 .fp8e4m3)
    (ws : FVec Ideal S1x4736 .f32) : FVec Ideal S12288x4736 .bf16 :=
  fun i => (∑ k : Fin 1152, (x (ix2 (i 0) k) : EReal) * w (ix2 k (i 1))) * xs (ix2 (i 0) 0) * ws (ix2 0 (i 1))

/-- What one grid point computes, entry by entry, from the four blocks it loads. -/
theorem pay_apply (x : FVec Ideal S512x1152 .fp8e4m3) (w : FVec Ideal S1152x4736 .fp8e4m3) (xs : FVec Ideal S512x1 .f32)
    (ws : FVec Ideal S1x4736 .f32) (j : S512x4736.Idx) :
    k0_pay1 (F := Ideal) x w xs ws j
      = (∑ k : Fin 1152, (x (ix2 (j 0) k) : EReal) * w (ix2 k (j 1))) * xs (ix2 (j 0) 0) * ws (ix2 0 (j 1)) := by
  pointwise [k0_pay1]

variable (m : (ℓ : Loc nD τ sig) → Buf (Elt Ideal) ℓ) (ρ : Dev nD → PrngReg)

/-! ## The blocks of a grid point: rows `512 t …` of the tokens, all of the weights -/

/-- The block indices of the five windows at point `t`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0) :=
  (by decide +kernel : ∀ t : Fin grid0.N, _)

/-- Row `r` of point `t`'s blocks is row `512 t + r` of the arrays. -/
def row (t : Fin cfg0.N) (r : Fin 512) : Fin 12288 :=
  ⟨t.val * 512 + r.val, by have := t.isLt; have h : cfg0.N = 24 := N_0; omega⟩

/-- Entry `(r, k)` of point `t`'s block of token codes is entry `(row t r, k)` of the codes. -/
theorem emb0 (t : Fin cfg0.N) (r : Fin 512) (k : Fin 1152) :
    ((cfg0.win 0).blk t).view.emb (ix2 r k : S512x1152.Idx) = (ix2 (row t r) k : S12288x1152.Idx) := by
  obtain ⟨⟨e0, e1⟩, -⟩ := idx_facts t
  funext a; apply Fin.ext
  match a with
  | ⟨0, _⟩ => show win0_0.index t (0 : Fin 2) * 512 + 1 * r.val = t.val * 512 + r.val; omega
  | ⟨1, _⟩ => show win0_0.index t (1 : Fin 2) * 1152 + 1 * k.val = k.val; omega

/-- Row `r` of point `t`'s block of token scales is row `row t r` of the scales. -/
theorem emb1 (t : Fin cfg0.N) (r : Fin 512) (k : Fin 1) :
    ((cfg0.win 1).blk t).view.emb (ix2 r k : S512x1.Idx) = (ix2 (row t r) k : S12288x1.Idx) := by
  obtain ⟨-, ⟨e0, e1⟩, -⟩ := idx_facts t
  funext a; apply Fin.ext
  match a with
  | ⟨0, _⟩ => show win0_1.index t (0 : Fin 2) * 512 + 1 * r.val = t.val * 512 + r.val; omega
  | ⟨1, _⟩ => show win0_1.index t (1 : Fin 2) * 1 + 1 * k.val = k.val; omega

/-- Every point's block of the weight codes is the whole array. -/
theorem emb2 (t : Fin cfg0.N) (j : S1152x4736.Idx) : ((cfg0.win 2).blk t).view.emb j = j := by
  obtain ⟨-, -, ⟨e0, e1⟩, -⟩ := idx_facts t
  funext a; apply Fin.ext
  match a with
  | ⟨0, _⟩ => show win0_2.index t (0 : Fin 2) * 1152 + 1 * (j 0).val = (j 0).val; omega
  | ⟨1, _⟩ => show win0_2.index t (1 : Fin 2) * 4736 + 1 * (j 1).val = (j 1).val; omega

/-- Every point's block of the channel scales is the whole array. -/
theorem emb3 (t : Fin cfg0.N) (j : S1x4736.Idx) : ((cfg0.win 3).blk t).view.emb j = j := by
  obtain ⟨-, -, -, ⟨e0, e1⟩, -⟩ := idx_facts t
  funext a; apply Fin.ext
  match a with
  | ⟨0, _⟩ => show win0_3.index t (0 : Fin 2) * 1 + 1 * (j 0).val = (j 0).val; omega
  | ⟨1, _⟩ => show win0_3.index t (1 : Fin 2) * 4736 + 1 * (j 1).val = (j 1).val; omega

/-- Entry `(r, l)` of point `t`'s block of the result is entry `(row t r, l)` of the result. -/
theorem emb4 (t : Fin cfg0.N) (r : Fin 512) (l : Fin 4736) :
    ((cfg0.win 4).blk t).view.emb (ix2 r l : S512x4736.Idx) = (ix2 (row t r) l : S12288x4736.Idx) := by
  obtain ⟨-, -, -, -, e0, e1⟩ := idx_facts t
  funext a; apply Fin.ext
  match a with
  | ⟨0, _⟩ => show win0_4.index t (0 : Fin 2) * 512 + 1 * r.val = t.val * 512 + r.val; omega
  | ⟨1, _⟩ => show win0_4.index t (1 : Fin 2) * 4736 + 1 * l.val = l.val; omega

/-- The offsets of a load or store at the block's corner are all zero. -/
theorem hz2 : (![0, 0] : Fin 2 → Nat) = fun _ => 0 := funext fun a => by fin_cases a <;> rfl

/-- The body's one store covers the block, and each of its loads reads a whole block. -/
theorem out_eq (a0 : Vec Ideal S512x1152 .fp8e4m3) (a1 : Vec Ideal S512x1 .f32) (a2 : Vec Ideal S1152x4736 .fp8e4m3)
    (a3 : Vec Ideal S1x4736 .f32) : out0_4 (F := Ideal) a0 a1 a2 a3 = k0_pay1 a0 a2 a1 a3 := by
  unfold out0_4
  rw [View.canon_unit_zero hz2, View.ld_unit_zero (S := S512x1152) hz2 _ a0, View.ld_unit_zero (S := S512x1) hz2 _ a1,
    View.ld_unit_zero (S := S1152x4736) hz2 _ a2, View.ld_unit_zero (S := S1x4736) hz2 _ a3]

/-- The layer over the arrays that the pallas_call is entered with. -/
abbrev result (c : Dev nD) : FVec Ideal S12288x4736 .bf16 :=
  flat (V m c main_v0) (V m c main_v1) (V m c main_arg2) (V m c main_v2)

/-- What point `t` writes back is block `t` of the layer. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4, out_eq]
  funext j
  show k0_pay1 (F := Ideal) (iblk m c 0 t) (iblk m c 2 t) (iblk m c 1 t) (iblk m c 3 t) j
    = result m c (((cfg0.win 4).blk t).view.emb j)
  obtain ⟨r, l, rfl⟩ : ∃ (r : Fin 512) (l : Fin 4736), j = ix2 r l := ⟨j 0, j 1, eq_ix2 j⟩
  rw [emb4]
  refine (pay_apply _ _ _ _ _).trans ?_
  have h0 (k : Fin 1152) : iblk m c 0 t (ix2 r k : S512x1152.Idx) = V m c main_v0 (ix2 (row t r) k : S12288x1152.Idx) :=
    congrArg (V m c main_v0) (emb0 t r k)
  have h1 : iblk m c 1 t (ix2 r 0 : S512x1.Idx) = V m c main_v1 (ix2 (row t r) 0 : S12288x1.Idx) :=
    congrArg (V m c main_v1) (emb1 t r 0)
  have h2 (k : S1152x4736.Idx) : iblk m c 2 t k = V m c main_arg2 k := congrArg (V m c main_arg2) (emb2 t k)
  have h3 (k : S1x4736.Idx) : iblk m c 3 t k = V m c main_v2 k := congrArg (V m c main_v2) (emb3 t k)
  refine Ideal.mul_congr (Ideal.mul_congr (Finset.sum_congr rfl fun k _ => Ideal.mul_congr (h0 k) (h2 _)) h1) (h3 _)

/-- Every entry of the result lies in the block of some point. -/
theorem covered (i : S12288x4736.Idx) :
    ∃ t : Fin cfg0.N, (cfg0.win 4).flush t = true ∧ i ∈ ((cfg0.win 4).blk t).view.set := by
  obtain ⟨a, l, rfl⟩ : ∃ (a : Fin 12288) (l : Fin 4736), i = ix2 a l := ⟨i 0, i 1, eq_ix2 i⟩
  have hN : cfg0.N = 24 := N_0
  let t : Fin cfg0.N := ⟨a.val / 512, by have := a.isLt; omega⟩
  refine ⟨t, flush0_4 t, ?_⟩
  have h := ((cfg0.win 4).blk t).view.emb_mem_set (ix2 (⟨a.val % 512, Nat.mod_lt _ (by decide)⟩ : Fin 512) l : S512x4736.Idx)
  rw [emb4] at h
  have e : row t ⟨a.val % 512, Nat.mod_lt _ (by decide)⟩ = a := Fin.ext (Nat.div_add_mod' a.val 512)
  rwa [e] at h

/-- The array that the pallas_call returns is the layer of the arrays it is entered with. -/
theorem final_eq (c : Dev nD) : (dats m 0 c).arrAt 4 cfg0.N = result m c :=
  (dats m 0 c).arrAt_eq_of_cover 4 (result m c) (fun t _ => flushed_eq m c t) covered

/-! ## The whole program: the reshapes before and after -/

/-- The kernel's result as a function of its four arguments: the tokens' two axes merged, the layer, the axes split again. -/
def value (x : FVec Ideal S4x3072x1152 .fp8e4m3) (xs : FVec Ideal S4x3072x1 .f32) (w : FVec Ideal S1152x4736 .fp8e4m3)
    (ws : FVec Ideal S4736 .f32) : FVec Ideal S4x3072x4736 .bf16 :=
  shapeCast S4x3072x4736 (flat (shapeCast S12288x1152 x shapeCasts_S4x3072x1152_S12288x1152)
    (shapeCast S12288x1 xs shapeCasts_S4x3072x1_S12288x1) w (shapeCast S1x4736 ws shapeCasts_S4736_S1x4736))
    shapeCasts_S12288x4736_S4x3072x4736

/-- The call is entered with the token codes' two token axes merged. -/
theorem V_v0 (c : Dev nD) : V m c main_v0
    = shapeCast S12288x1152 (m ((c : Thread nD τ).loc main_arg0)) shapeCasts_S4x3072x1152_S12288x1152 := by
  entry_read; rfl

/-- The call is entered with the token scales' two token axes merged. -/
theorem V_v1 (c : Dev nD) : V m c main_v1
    = shapeCast S12288x1 (m ((c : Thread nD τ).loc main_arg1)) shapeCasts_S4x3072x1_S12288x1 := by
  entry_read; rfl

/-- The call is entered with the channel scales as one row. -/
theorem V_v2 (c : Dev nD) : V m c main_v2
    = shapeCast S1x4736 (m ((c : Thread nD τ).loc main_arg3)) shapeCasts_S4736_S1x4736 := by
  entry_read; rfl

/-- What the program's result buffer holds after the last reshape. -/
theorem tail_eq (c : Dev nD) : Pipeline.afterTail₀ cfgs (dats m) 0 (V0 m) [hostOps1] c main_v4
    = value (m ((c : Thread nD τ).loc main_arg0)) (m ((c : Thread nD τ).loc main_arg1))
        (m ((c : Thread nD τ).loc main_arg2)) (m ((c : Thread nD τ).loc main_arg3)) := by
  unfold Pipeline.afterTail₀ value
  rw [← V_v0, ← V_v1, ← V_main_arg2 m c, ← V_v2]
  show _ = shapeCast S4x3072x4736 (result m c) _
  rw [← final_eq]
  have hW : Pipeline.withArrays (cfgs 0).spec c (V0 m c) (fun w => (dats m 0 c).arrAt w (cfgs 0).N) (Proc.devRef .tc main_v3)
      = (dats m 0 c).arrAt 4 cfg0.N := Pipeline.withArrays_arr spec0 launch0.win.arr_inj c (V0 m c) _ 4
  rw [← hW]
  generalize Pipeline.withArrays (cfgs 0).spec c (V0 m c) (fun w => (dats m 0 c).arrAt w (cfgs 0).N) = W
  simp only [hostOps1, List.flatten_cons, List.flatten_nil, List.append_nil]
  after_results
  rfl

/-- THE KERNEL'S RUN: it ends with its result at `value` of the arguments, and the arguments as they were. -/
theorem run : θ_run defs (onTc (τ := τ) (main (F := Ideal))) ⟨m, fun _ => 0, ρ⟩ fun r => ∀ c : Dev nD,
      r.2.mem ((c : Thread nD τ).loc main_v4) = value (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨?_, h.2 c⟩) (θ_run_and (run_main m ρ) (unchanged m ρ))
  exact ((h.1 c).2 main_v4 (Pipeline.mem_restRefs_of main_v4 (by decide) (by decide))).trans (tail_eq m c)

end Cert.KernelIdeal.Layer

end
-- ==== Proof.Equation.lean ====
/- The kernel's result and the reference's result are the same function of the four arguments, on idealized numbers: each
   entry is read on both sides as one sum of products times the token's scale times the channel's scale. -/
module

public import proofs.«01_k».proof.Proof.KernelValue
public import proofs.«01_k».proof.Proof.Gen.ReferenceIdeal.Value

@[expose] public section

set_option maxRecDepth 16384

noncomputable section

namespace Cert.Equation

open Idealize.ShloMosaic Idealize.SL.Sem

/-- Entry `(b, s, l)` of the reference's result. -/
theorem reference_apply (x : FVec Ideal ReferenceIdeal.S4x3072x1152 .fp8e4m3) (xs : FVec Ideal ReferenceIdeal.S4x3072x1 .f32)
    (w : FVec Ideal ReferenceIdeal.S1152x4736 .fp8e4m3) (ws : FVec Ideal ReferenceIdeal.S4736 .f32)
    (b : Fin 4) (s : Fin 3072) (l : Fin 4736) :
    ReferenceIdeal.Gen.k0_pay1 (F := Ideal) x xs w ws (ix3 b s l)
      = (∑ k : Fin 1152, (x (ix3 b s k) : EReal) * w (ix2 k l)) * xs (ix3 b s 0) * ws (ix1 l) := by
  pointwise [ReferenceIdeal.Gen.k0_pay1]

/-- Entry `(b, s, l)` of the kernel's result. -/
theorem kernel_apply (x : FVec Ideal KernelIdeal.S4x3072x1152 .fp8e4m3) (xs : FVec Ideal KernelIdeal.S4x3072x1 .f32)
    (w : FVec Ideal KernelIdeal.S1152x4736 .fp8e4m3) (ws : FVec Ideal KernelIdeal.S4736 .f32)
    (b : Fin 4) (s : Fin 3072) (l : Fin 4736) :
    KernelIdeal.Layer.value x xs w ws (ix3 b s l)
      = (∑ k : Fin 1152, (x (ix3 b s k) : EReal) * w (ix2 k l)) * xs (ix3 b s 0) * ws (ix1 l) := by
  let r : Fin 12288 := ⟨b.val * 3072 + s.val, by omega⟩
  have hr : r.val = b.val * 3072 + s.val := rfl
  refine (shapeCast_apply _ _ (ix3 b s l) (ix2 r l : KernelIdeal.S12288x4736.Idx) ?_).trans ?_
  · rw [Shape.rowMajor_val_two, Shape.rowMajor_val_three]
    show r.val * 4736 + l.val = (b.val * 3072 + s.val) * 4736 + l.val
    omega
  refine Ideal.mul_congr (Ideal.mul_congr (Finset.sum_congr rfl fun k _ => Ideal.mul_congr ?_ rfl) ?_) ?_
  · refine shapeCast_apply _ _ _ _ ?_
    rw [Shape.rowMajor_val_two, Shape.rowMajor_val_three]
    show (b.val * 3072 + s.val) * 1152 + k.val = r.val * 1152 + k.val
    omega
  · refine shapeCast_apply _ _ _ _ ?_
    rw [Shape.rowMajor_val_two, Shape.rowMajor_val_three]
    show (b.val * 3072 + s.val) * 1 + 0 = r.val * 1 + 0
    omega
  · refine shapeCast_apply _ _ _ _ ?_
    rw [Shape.rowMajor_val_two, Shape.rowMajor_val_one]
    show l.val = 0 * 4736 + l.val
    omega

/-- The two results are the same function of the arguments. -/
theorem value_eq (x : FVec Ideal KernelIdeal.S4x3072x1152 .fp8e4m3) (xs : FVec Ideal KernelIdeal.S4x3072x1 .f32)
    (w : FVec Ideal KernelIdeal.S1152x4736 .fp8e4m3) (ws : FVec Ideal KernelIdeal.S4736 .f32) :
    ReferenceIdeal.Value.G4 (F := Ideal) x xs w ws = KernelIdeal.Layer.value x xs w ws := by
  funext i
  obtain ⟨b, s, l, rfl⟩ : ∃ (b : Fin 4) (s : Fin 3072) (l : Fin 4736), i = ix3 b s l := ⟨i 0, i 1, i 2, eq_ix3 i⟩
  exact (reference_apply x xs w ws b s l).trans (kernel_apply x xs w ws b s l).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelValue
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From memories that agree on the arguments, kernel and reference end with the same result, on idealized numbers: the
    kernel's run ends at `value` of its arguments, the reference's at the same function of its own. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, Cert.KernelIdeal.Layer.run m g, (θ_run _ _ _).mono (fun r h c => ⟨(h c).1.trans ?_, (h c).2⟩)
    (Cert.ReferenceIdeal.Value.run (F := Ideal) m' g')⟩
  obtain ⟨h0, h1, h2, h3⟩ := hagree c
  rw [← h0, ← h1, ← h2, ← h3]
  exact Cert.Equation.value_eq _ _ _ _

/-- Everything claimed: the three programs end with their arguments unchanged, the idealized kernel is the kernel's own
    program, and it computes what the idealized reference computes. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
